-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_alpha" .f32 0xBC24AA2A#32 ((Real.log (99 / 100) : ℝ) : EReal)
  ∧ IdealRules.named_const.Statement Cert.KernelIdeal.κ "inv_40" .f32 0x3CCCCCCD#32 ((1 / 40 : ℝ) : EReal)
  ∧ IdealRules.named_const.Statement Cert.KernelIdeal.κ "decay" .f32 0x3E8D70DC#32 ((2762516676992086031162215252099373937751823498820663686038954381955181420661434999029402997104757596041430934979321430477936990632890966956832566192554952764119325614305369446826420895442039482384803123768496541126881538692265003099627365446602458705267201 / 10000000000000000000000000000000000000000000000000000000000000000000000000000000000000000000000000000000000000000000000000000000000000000000000000000000000000000000000000000000000000000000000000000000000000000000000000000000000000000000000000000000000000000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x16384x32 : Shape := ⟨4, ![64, 1, 16384, 32]⟩
abbrev S1x1x32 : Shape := ⟨3, ![1, 1, 32]⟩
abbrev S64x1x32x16384 : Shape := ⟨4, ![64, 1, 32, 16384]⟩
abbrev S2048x16384 : Shape := ⟨2, ![2048, 16384]⟩
abbrev S32 : Shape := ⟨1, ![32]⟩
abbrev S1x32 : Shape := ⟨2, ![1, 32]⟩
abbrev S64x32 : Shape := ⟨2, ![64, 32]⟩
abbrev S2048 : Shape := ⟨1, ![2048]⟩
abbrev S2048x1 : Shape := ⟨2, ![2048, 1]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S128x16384 : Shape := ⟨2, ![128, 16384]⟩
abbrev S64x1x32 : Shape := ⟨3, ![64, 1, 32]⟩

abbrev nBuf : Space → Nat
  | .hbm => 61
  | .vmem => 9
  | .smem => 0
  | _ => 0

abbrev bufTy : (tb : Table) → Fin (tcTables nBuf tb) → BufTy
  | .hbm, ⟨0, _⟩ => ⟨S64x1x16384x32, .f32⟩
  | .hbm, ⟨1, _⟩ => ⟨S1x1x32, .f32⟩
  | .hbm, ⟨2, _⟩ => ⟨S64x1x32x16384, .f32⟩
  | .hbm, ⟨3, _⟩ => ⟨S2048x16384, .f32⟩
  | .hbm, ⟨4, _⟩ => ⟨S32, .f32⟩
  | .hbm, ⟨5, _⟩ => ⟨S1x32, .f32⟩
  | .hbm, ⟨6, _⟩ => ⟨S64x32, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .i32⟩
  | .hbm, ⟨13, _⟩ => ⟨S128x1, .i32⟩
  | .hbm, ⟨14, _⟩ => ⟨S128, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .f32⟩
  | .hbm, ⟨20, _⟩ => ⟨S_, .f32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x256, .f32⟩
  | .hbm, ⟨56, _⟩ => ⟨S2048x16384, .f32⟩
  | .hbm, ⟨57, _⟩ => ⟨S2048x1, .f32⟩
  | .hbm, ⟨58, _⟩ => ⟨S64x1x32x16384, .f32⟩
  | .hbm, ⟨59, _⟩ => ⟨S64x1x16384x32, .f32⟩
  | .hbm, ⟨60, _⟩ => ⟨S64x1x32, .f32⟩
  | .local _ .vmem, ⟨0, _⟩ => ⟨S128x16384, .f32⟩
  | .local _ .vmem, ⟨1, _⟩ => ⟨S128x16384, .f32⟩
  | .local _ .vmem, ⟨2, _⟩ => ⟨S128x256, .f32⟩
  | .local _ .vmem, ⟨3, _⟩ => ⟨S128x1, .f32⟩
  | .local _ .vmem, ⟨4, _⟩ => ⟨S128x1, .f32⟩
  | .local _ .vmem, ⟨5, _⟩ => ⟨S128x16384, .f32⟩
  | .local _ .vmem, ⟨6, _⟩ => ⟨S128x16384, .f32⟩
  | .local _ .vmem, ⟨7, _⟩ => ⟨S128x1, .f32⟩
  | .local _ .vmem, ⟨8, _⟩ => ⟨S128x1, .f32⟩
  | _, _ => ⟨S64x1x16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "decay" => some ((2762516676992086031162215252099373937751823498820663686038954381955181420661434999029402997104757596041430934979321430477936990632890966956832566192554952764119325614305369446826420895442039482384803123768496541126881538692265003099627365446602458705267201 / 10000000000000000000000000000000000000000000000000000000000000000000000000000000000000000000000000000000000000000000000000000000000000000000000000000000000000000000000000000000000000000000000000000000000000000000000000000000000000000000000000000000000000000 : ℝ) : EReal)
  | "inv_40" => some ((1 / 40 : ℝ) : EReal)
  | "log_alpha" => some ((Real.log (99 / 100) : ℝ) : EReal)
  | _ => none
-- ==== ReferenceIdeal.lean ====
abbrev S64x1x16384x32 : Shape := ⟨4, ![64, 1, 16384, 32]⟩
abbrev S1x1x32 : Shape := ⟨3, ![1, 1, 32]⟩
abbrev S_ : Shape := ⟨0, ![]⟩
abbrev S64x1x32 : Shape := ⟨3, ![64, 1, 32]⟩
abbrev S16384x64x1x32 : Shape := ⟨4, ![16384, 64, 1, 32]⟩
abbrev S1x64x1x32 : Shape := ⟨4, ![1, 64, 1, 32]⟩

abbrev nBuf : Space → Nat
  | .hbm => 41
  | .vmem => 0
  | .smem => 0
  | _ => 0

abbrev bufTy : (tb : Table) → Fin (tcTables nBuf tb) → BufTy
  | .hbm, ⟨0, _⟩ => ⟨S64x1x16384x32, .f32⟩
  | .hbm, ⟨1, _⟩ => ⟨S1x1x32, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S64x1x32, .f32⟩
  | .hbm, ⟨6, _⟩ => ⟨S16384x64x1x32, .f32⟩
  | .hbm, ⟨7, _⟩ => ⟨S_, .f32⟩
  | .hbm, ⟨8, _⟩ => ⟨S16384x64x1x32, .f32⟩
  | .hbm, ⟨9, _⟩ => ⟨S_, .i32⟩
  | .hbm, ⟨10, _⟩ => ⟨S16384x64x1x32, .f32⟩
  | .hbm, ⟨11, _⟩ => ⟨S_, .f32⟩
  | .hbm, ⟨12, _⟩ => ⟨S_, .i32⟩
  | .hbm, ⟨13, _⟩ => ⟨S64x1x32, .f32⟩
  | .hbm, ⟨14, _⟩ => ⟨S16384x64x1x32, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x64x1x32, .f32⟩
  | .hbm, ⟨21, _⟩ => ⟨S64x1x32, .f32⟩
  | .hbm, ⟨22, _⟩ => ⟨S_, .f32⟩
  | .hbm, ⟨23, _⟩ => ⟨S_, .f32⟩
  | .hbm, ⟨24, _⟩ => ⟨S64x1x32, .f32⟩
  | .hbm, ⟨25, _⟩ => ⟨S64x1x32, .f32⟩
  | .hbm, ⟨26, _⟩ => ⟨S64x1x32, .f32⟩
  | .hbm, ⟨27, _⟩ => ⟨S64x1x32, .f32⟩
  | .hbm, ⟨28, _⟩ => ⟨S64x1x32, .f32⟩
  | .hbm, ⟨29, _⟩ => ⟨S64x1x32, .f32⟩
  | .hbm, ⟨30, _⟩ => ⟨S_, .f32⟩
  | .hbm, ⟨31, _⟩ => ⟨S64x1x32, .f32⟩
  | .hbm, ⟨32, _⟩ => ⟨S64x1x32, .f32⟩
  | .hbm, ⟨33, _⟩ => ⟨S1x64x1x32, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16384x64x1x32, .f32⟩
  | .hbm, ⟨38, _⟩ => ⟨S_, .i32⟩
  | .hbm, ⟨39, _⟩ => ⟨S_, .i32⟩
  | .hbm, ⟨40, _⟩ => ⟨S64x1x16384x32, .f32⟩
  | _, _ => ⟨S64x1x16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_while0c_c_6 : Ref sig .tc := ⟨.hbm, 15, rfl⟩
abbrev main_while0c_v6 : Ref sig .tc := ⟨.hbm, 16, rfl⟩
abbrev main_while0b_call0_c : Ref sig .tc := ⟨.hbm, 17, rfl⟩
abbrev main_while0b_call0_c_0 : Ref sig .tc := ⟨.hbm, 18, rfl⟩
abbrev main_while0b_call0_c_1 : Ref sig .tc := ⟨.hbm, 19, rfl⟩
abbrev main_while0b_call0_v0 : Ref sig .tc := ⟨.hbm, 20, rfl⟩
abbrev main_while0b_v6 : Ref sig .tc := ⟨.hbm, 21, rfl⟩
abbrev main_while0b_cst_6 : Ref sig .tc := ⟨.hbm, 22, rfl⟩
abbrev main_while0b_v7 : Ref sig .tc := ⟨.hbm, 23, rfl⟩
abbrev main_while0b_v8 : Ref sig .tc := ⟨.hbm, 24, rfl⟩
abbrev main_while0b_v9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_cst_7 : Ref sig .tc := ⟨.hbm, 30, rfl⟩
abbrev main_while0b_v14 : Ref sig .tc := ⟨.hbm, 31, rfl⟩
abbrev main_while0b_v15 : Ref sig .tc := ⟨.hbm, 32, rfl⟩
abbrev main_while0b_call1_v0 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_v16 : Ref sig .tc := ⟨.hbm, 37, rfl⟩
abbrev main_while0b_c_8 : Ref sig .tc := ⟨.hbm, 38, rfl⟩
abbrev main_while0b_v17 : Ref sig .tc := ⟨.hbm, 39, rfl⟩
abbrev main_v5 : Ref sig .tc := ⟨.hbm, 40, rfl⟩

abbrev nD : Nat := 1
abbrev τ : Topo := Topo.v7x

variable {F : FTy → Type} [FloatOps F]

abbrev main_while0_count : Scf.Loop 32 := ⟨0#32, 16384#32, 1#32⟩
-- ==== Proof.Chunks.lean ====
/- What the kernel's body stores, described chunk by chunk: the 128 tiles of the normalised block and the column it leaves
   as the state, as values of one recursion over the chunks. -/
module

public import proofs.«01_k».proof.Proof.Gen.KernelIdeal.Frame
public import Idealize.ShloMosaic.Lib.Pipeline.ValueKit

@[expose] public section

set_option maxRecDepth 16384

noncomputable section

namespace Cert.KernelIdeal.Chunks

open Idealize.ShloMosaic Idealize.ShloMosaic.TcCoe Idealize.ShloMosaic.Tactic
open Cert.KernelIdeal.Gen

variable {F : FTy → Type} [FloatOps F] [Named F]

/-- The share of the mean before chunk `k` in the means of that chunk's samples: from the state column at the first chunk;
    then what chunk `k` leaves to the next one, plus the share it found, decayed. -/
def carry (X : ℕ → Vec F S128x128 .f32) (ab : Vec F S128x256 .f32) (h : Vec F S128x1 .f32) (k : ℕ) : FVec F S128x128 .f32 :=
  Nat.rec (k0_pay5 h) (fun k t => addf (extractStridedSlice S128x128 ![0, 128] (k0_pay7 ab (X k)) slices_S128x256_o0_128_S128x128)
    (mulf (broadcast S128x128 (Named.named κ "decay" 0x3E8D70DC#32 : F .f32)) t)) k

/-- The means of chunk `k`'s samples. -/
def mean (X : ℕ → Vec F S128x128 .f32) (ab : Vec F S128x256 .f32) (h : Vec F S128x1 .f32) (k : ℕ) : FVec F S128x128 .f32 :=
  addf (extractStridedSlice S128x128 ![0, 0] (k0_pay7 ab (X k)) slices_S128x256_o0_0_S128x128) (carry X ab h k)

/-- Chunk `k` normalised: its samples less their means, times the reciprocal of forty. -/
def normed (X : ℕ → Vec F S128x128 .f32) (ab : Vec F S128x256 .f32) (h : Vec F S128x1 .f32) (k : ℕ) : FVec F S128x128 .f32 :=
  mulf (subf (k0_pay6 (X k)) (mean X ab h k)) (broadcast S128x128 (Named.named κ "inv_40" 0x3CCCCCCD#32 : F .f32))

/-- Chunk `k` lies inside the block. -/
theorem chunk_inb (k : ℕ) : ∀ a : Fin 2, (![0, 128 * (k % 128)] : Fin 2 → ℕ) a + S128x128.size a ≤ S128x16384.size a := by
  have := Nat.mod_lt k (show 0 < 128 by decide)
  intro a
  fin_cases a
  · exact Nat.le_refl 128
  · show 128 * (k % 128) + 128 ≤ 16384
    omega

/-- The rectangle of chunk `k` in the block. -/
def tile (k : ℕ) : Rect S128x16384 := Rect.unit ![0, 128 * (k % 128)] S128x128.size (chunk_inb k)

/-- The samples of chunk `k`, as the body loads them. -/
def chunk (arg2 : Memref sig .tc .vmem S128x16384 .f32) (harg2 : arg2.IsWhole) (x0 : Vec F S128x16384 .f32) (k : ℕ) :
    Vec F S128x128 .f32 :=
  View.readAt (Elt F) arg2.view (tile k).toLoadRect (harg2.unread x0)

/-- The chunk operator, as the body loads it. -/
def operator (arg3 : Memref sig .tc .vmem S128x256 .f32) (harg3 : arg3.IsWhole) (x1 : Vec F S128x256 .f32) :
    Vec F S128x256 .f32 :=
  View.readAt (Elt F) arg3.view (Rect.unit ![0, 0] S128x256.size inb_S128x256_S128x256_0_0).toLoadRect (harg3.unread x1)

/-- The stores of the normalised block, last first: chunk 127 down to chunk 0, each at its own rectangle. -/
theorem pieces_block (c : Dev nD) (i : grid0.Coords) (arg2 : Memref sig .tc .vmem S128x16384 .f32) (harg2 : arg2.IsWhole)
    (arg3 : Memref sig .tc .vmem S128x256 .f32) (harg3 : arg3.IsWhole) (arg4 : Memref sig .tc .vmem S128x1 .f32) (harg4 : arg4.IsWhole)
    (arg5 : Memref sig .tc .vmem S128x16384 .f32) (harg5 : arg5.IsWhole) (arg6 : Memref sig .tc .vmem S128x1 .f32) (harg6 : arg6.IsWhole)
    (hc0 : cond0_0 i) (x0 : Vec F S128x16384 .f32) (x1 : Vec F S128x256 .f32) (x2 : Vec F S128x1 .f32) :
    (kernelRun0_A c i arg2 harg2 arg3 harg3 arg4 harg4 arg5 harg5 arg6 harg6 hc0 x0 x1 x2).1
      = (List.range 128).map fun k => (⟨tile (127 - k), normed (chunk arg2 harg2 x0) (operator arg3 harg3 x1)
          (kernelRun0_A.sl.v13 c arg4 harg4 arg6 x2) (127 - k)⟩ : View.Piece (Elt F) S128x16384 .f32) := by
  sl_kernel_rfl

/-- The stores of the state column, last first: the last column of the last chunk's means, over the column copied at the
    start. -/
theorem pieces_state (c : Dev nD) (i : grid0.Coords) (arg2 : Memref sig .tc .vmem S128x16384 .f32) (harg2 : arg2.IsWhole)
    (arg3 : Memref sig .tc .vmem S128x256 .f32) (harg3 : arg3.IsWhole) (arg4 : Memref sig .tc .vmem S128x1 .f32) (harg4 : arg4.IsWhole)
    (arg5 : Memref sig .tc .vmem S128x16384 .f32) (harg5 : arg5.IsWhole) (arg6 : Memref sig .tc .vmem S128x1 .f32) (harg6 : arg6.IsWhole)
    (hc0 : cond0_0 i) (x0 : Vec F S128x16384 .f32) (x1 : Vec F S128x256 .f32) (x2 : Vec F S128x1 .f32) :
    (kernelRun0_A c i arg2 harg2 arg3 harg3 arg4 harg4 arg5 harg5 arg6 harg6 hc0 x0 x1 x2).2.1
      = (⟨Rect.unit ![0, 0] S128x1.size inb_S128x1_S128x1_0_0, k0_pay2 (mean (chunk arg2 harg2 x0) (operator arg3 harg3 x1)
          (kernelRun0_A.sl.v13 c arg4 harg4 arg6 x2) 127)⟩ : View.Piece (Elt F) S128x1 .f32)
        :: kernelRun0_A.sl.H4_1 c arg4 harg4 x2 := by
  sl_kernel_rfl

end Cert.KernelIdeal.Chunks

end
-- ==== Proof.Ema.lean ====
/- The recurrence of both programs in the extended reals: the running mean one step at a time, the same mean over a
   stretch of steps written as one weighted sum, and the form the chunks of the kernel use. -/
module

public import Idealize.ShloMosaic.Lib.Pipeline.ValueKit

@[expose] public section

noncomputable section

namespace Cert.Ema

open Finset

/-- The decay of the mean. -/
def al : ℝ := 99 / 100

theorem al_pos : 0 < al := by unfold al; norm_num

/-- The mean after `t` samples of `x`, from the start `s`: each sample weighs `1 - al`, the mean before it `al`. -/
def ema (x : ℕ → EReal) (s : EReal) : ℕ → EReal
  | 0 => s
  | t + 1 => x t * ((1 - al : ℝ) : EReal) + ema x s t * ((al : ℝ) : EReal)

/-- Two sums times a nonnegative real: the product distributes, whatever infinities the summands hold. -/
theorem add_mul_real (a b : EReal) {r : ℝ} (hr : 0 ≤ r) : (a + b) * (r : EReal) = a * r + b * r := by
  rw [mul_comm, EReal.left_distrib_of_nonneg_of_ne_top (by exact_mod_cast hr) (EReal.coe_ne_top r), mul_comm (r : EReal) a,
    mul_comm (r : EReal) b]

/-- A finite sum times a nonnegative real is the sum of the products. -/
theorem sum_mul_real (n : ℕ) (f : ℕ → EReal) {r : ℝ} (hr : 0 ≤ r) :
    (∑ j ∈ range n, f j) * (r : EReal) = ∑ j ∈ range n, f j * r := by
  induction n with
  | zero => simp
  | succ n ih => rw [sum_range_succ, sum_range_succ, add_mul_real _ _ hr, ih]

/-- The product of an extended real with two reals in turn. -/
theorem mul_real_mul_real (a : EReal) (r q : ℝ) : a * (r : EReal) * (q : EReal) = a * ((r * q : ℝ) : EReal) := by
  rw [mul_assoc, EReal.coe_mul]

/-- The mean `i` samples on, as one weighted sum of those samples and the mean before them. -/
theorem ema_add (x : ℕ → EReal) (s : EReal) (k : ℕ) : ∀ i, ema x s (k + i)
    = (∑ j ∈ range i, x (k + j) * (((1 - al) * al ^ (i - 1 - j) : ℝ) : EReal)) + ema x s k * ((al ^ i : ℝ) : EReal)
  | 0 => by simp
  | i + 1 => by
    have hal : (0 : ℝ) ≤ al := al_pos.le
    rw [← Nat.add_assoc, ema, ema_add x s k i, add_mul_real _ _ hal, sum_mul_real _ _ hal, sum_range_succ,
      mul_real_mul_real, ← pow_succ]
    have hs : ∀ j ∈ range i, x (k + j) * (((1 - al) * al ^ (i - 1 - j) : ℝ) : EReal) * ((al : ℝ) : EReal)
        = x (k + j) * (((1 - al) * al ^ (i + 1 - 1 - j) : ℝ) : EReal) := fun j hj => by
      have hj' := mem_range.mp hj
      rw [mul_real_mul_real, mul_assoc, ← pow_succ, show i - 1 - j + 1 = i + 1 - 1 - j by omega]
    rw [sum_congr rfl hs, show i + 1 - 1 - i = 0 by omega, pow_zero, mul_one]
    abel

/-- The weight of sample `j` of a chunk in the mean after its sample `i`. -/
def wa (j i : ℕ) : ℝ := if j ≤ i then (1 - al) * al ^ (i - j) else 0

/-- The weight of sample `j` of a chunk in what the chunk leaves to sample `i` of the next one. -/
def wb (j i : ℕ) : ℝ := (1 - al) * al ^ (127 - j) * al ^ (i + 1)

/-- The share of the mean before chunk `c` in the mean after its sample `i`, chunk by chunk as the kernel carries it. -/
def hterm (x : ℕ → EReal) (s : EReal) : ℕ → ℕ → EReal
  | 0, i => s * ((al ^ (i + 1) : ℝ) : EReal)
  | c + 1, i => (∑ j ∈ range 128, x (128 * c + j) * ((wb j i : ℝ) : EReal))
      + ((al ^ 128 : ℝ) : EReal) * hterm x s c i

/-- The carried share is the mean at the chunk's start, decayed. -/
theorem hterm_eq (x : ℕ → EReal) (s : EReal) (i : ℕ) : ∀ c, hterm x s c i
    = ema x s (128 * c) * ((al ^ (i + 1) : ℝ) : EReal)
  | 0 => rfl
  | c + 1 => by
    have hp : (0 : ℝ) ≤ al ^ (i + 1) := (pow_pos al_pos _).le
    rw [hterm, hterm_eq x s i c, show 128 * (c + 1) = 128 * c + 128 from by ring, ema_add, add_mul_real _ _ hp,
      sum_mul_real _ _ hp]
    congr 1
    · exact sum_congr rfl fun j _ => by rw [mul_real_mul_real, wb]
    · rw [mul_comm, mul_assoc, mul_assoc, mul_comm ((al ^ (i + 1) : ℝ) : EReal)]

/-- The weighted sum of a whole chunk, with the weights of the samples after `i` zero, and the carried share: the mean
    after sample `i` of the chunk. -/
theorem chunk_eq (x : ℕ → EReal) (s : EReal) (c i : ℕ) (hi : i < 128) :
    (∑ j ∈ range 128, x (128 * c + j) * ((wa j i : ℝ) : EReal)) + hterm x s c i = ema x s (128 * c + i + 1) := by
  rw [Nat.add_assoc, ema_add, hterm_eq]
  congr 1
  rw [← sum_subset (range_subset_range.mpr (show i + 1 ≤ 128 by omega))
    (fun j _ hj => by
      have : ¬ j ≤ i := fun h => hj (mem_range.mpr (by omega))
      rw [wa, if_neg this]; simp)]
  refine sum_congr rfl fun j hj => ?_
  have := mem_range.mp hj
  rw [wa, if_pos (by omega), show i + 1 - 1 - j = i - j by omega]

end Cert.Ema

end
-- ==== Proof.Consts.lean ====
/- The literal constants and the named constants of the two programs, as real numbers. -/
module

public import proofs.«01_k».proof.Proof.Ema
public import proofs.«01_k».proof.Proof.Gen.KernelIdeal

@[expose] public section

noncomputable section

namespace Cert.Consts

open Idealize.ShloMosaic

/-- The constant 1. -/
theorem one : Ideal.ofBits .f32 0x3F800000#32 = ((1 : ℝ) : EReal) := by
  simp [Ideal.ofBits, Ideal.ieee, -EReal.coe_mul]; try norm_num

/-- The constant 99. -/
theorem ninetynine : Ideal.ofBits .f32 0x42C60000#32 = ((99 : ℝ) : EReal) := by
  simp [Ideal.ofBits, Ideal.ieee, -EReal.coe_mul]; try norm_num

/-- The constant 100. -/
theorem hundred : Ideal.ofBits .f32 0x42C80000#32 = ((100 : ℝ) : EReal) := by
  simp [Ideal.ofBits, Ideal.ieee, -EReal.coe_mul]; try norm_num

/-- The constant 40. -/
theorem forty : Ideal.ofBits .f32 0x42200000#32 = ((40 : ℝ) : EReal) := by
  simp [Ideal.ofBits, Ideal.ieee, -EReal.coe_mul]; try norm_num

/-- The constant 0. -/
theorem zero : Ideal.ofBits .f32 0x00000000#32 = 0 := by
  simp [Ideal.ofBits, Ideal.ieee, -EReal.coe_mul]; try norm_num

/-- The quotient of 99 by 100 is the decay of the mean. -/
theorem decay_quot : Ideal.div ((99 : ℝ) : EReal) ((100 : ℝ) : EReal) = ((Ema.al : ℝ) : EReal) := by
  rw [Ideal.div_coe (by norm_num : (100 : ℝ) ≠ 0), ← EReal.coe_mul, Ema.al]
  norm_num

/-- One less the decay. -/
theorem one_sub_decay : ((1 : ℝ) : EReal) - ((Ema.al : ℝ) : EReal) = ((1 - Ema.al : ℝ) : EReal) := (EReal.coe_sub _ _).symm

/-- The named logarithm is that of the decay. -/
theorem named_log : (Named.named Cert.KernelIdeal.κ "log_alpha" 0xBC24AA2A#32 : Ideal .f32) = ((Real.log Ema.al : ℝ) : EReal) :=
  IdealRules.named_const.ideal_named_scalar _ _ _ _ rfl

/-- The named decay of a chunk is the decay to the power 128. -/
theorem named_decay : (Named.named Cert.KernelIdeal.κ "decay" 0x3E8D70DC#32 : Ideal .f32) = ((Ema.al ^ 128 : ℝ) : EReal) := by
  rw [IdealRules.named_const.ideal_named_scalar _ _ _ _ rfl, Ema.al]
  norm_num

/-- The named reciprocal is that of forty. -/
theorem named_inv : (Named.named Cert.KernelIdeal.κ "inv_40" 0x3CCCCCCD#32 : Ideal .f32) = ((1 / 40 : ℝ) : EReal) :=
  IdealRules.named_const.ideal_named_scalar _ _ _ _ rfl

/-- A small natural number's word converts to that number. -/
theorem word (φ : FTy) (n : ℕ) (hn : n < 2 ^ 31) : (FloatOps.sitofp φ (BitVec.ofNat 32 n) : Ideal φ) = ((n : ℝ) : EReal) := by
  show (((BitVec.ofNat 32 n).toInt : ℝ) : EReal) = _
  have h : (BitVec.ofNat 32 n).toInt = (n : ℤ) := by
    rw [BitVec.toInt_eq_toNat_of_lt (by rw [BitVec.toNat_ofNat]; omega), BitVec.toNat_ofNat, Nat.mod_eq_of_lt (by omega)]
  rw [h, Int.cast_natCast]

/-- The difference of two small natural numbers' words, the second no greater, is the difference's word. -/
theorem word_sub (a b : ℕ) (hb : b ≤ a) (ha : a < 2 ^ 31) :
    BitVec.ofNat 32 a - BitVec.ofNat 32 b = BitVec.ofNat 32 (a - b) := by
  apply BitVec.eq_of_toNat_eq
  simp only [BitVec.toNat_sub, BitVec.toNat_ofNat]
  omega

/-- The comparison of two small natural numbers' words, read signed, is that of the numbers. -/
theorem word_le (a b : ℕ) (ha : a < 2 ^ 31) (hb : b < 2 ^ 31) :
    BitVec.sle (BitVec.ofNat 32 a) (BitVec.ofNat 32 b) = decide (a ≤ b) := by
  have h : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  rw [BitVec.sle, h a ha, h b hb]
  simp

/-- The exponential of the logarithm of the decay, `n` times over, is its `n`-th power. -/
theorem exp_log (n : ℕ) : Ideal.exp (((Real.log Ema.al : ℝ) : EReal) * ((n : ℝ) : EReal)) = ((Ema.al ^ n : ℝ) : EReal) := by
  rw [← EReal.coe_mul, Ideal.exp_coe, mul_comm, Real.exp_nat_mul, Real.exp_log Ema.al_pos]

/-- The decay to a natural power. -/
theorem pow_nat (n : ℕ) : Ideal.pow ((Ema.al : ℝ) : EReal) ((n : ℝ) : EReal) = ((Ema.al ^ n : ℝ) : EReal) := by
  rw [Ideal.pow_coe_coe]
  exact congrArg _ (Real.rpow_natCast _ n)

end Cert.Consts

end
-- ==== Proof.Block.lean ====
/- What one grid point leaves in its two output blocks, in the extended reals: the normalised samples of each row and the
   row's mean after its last sample, by the recurrence of the running mean. -/
module

public import proofs.«01_k».proof.Proof.Chunks
public import proofs.«01_k».proof.Proof.Consts

@[expose] public section

set_option maxRecDepth 16384

noncomputable section

namespace Cert.KernelIdeal.Chunks

open Idealize.ShloMosaic Idealize.ShloMosaic.TcCoe Idealize.ShloMosaic.Tactic
open Cert.KernelIdeal.Gen

/-- Row `r` of a block as a sequence: its samples, and zero past its end. -/
def row (x0 : Vec Ideal S128x16384 .f32) (r : Fin 128) (q : ℕ) : EReal :=
  if hq : q < 16384 then x0 (ix2 r ⟨q, hq⟩) else 0

/-- The chunk operator's table: the weights inside a chunk on the left, those for the next chunk on the right. -/
def IsOperator (ab : Vec Ideal S128x256 .f32) : Prop :=
  ∀ (j : Fin 128) (i : Fin 256), ab (ix2 j i)
    = if i.val < 128 then ((Ema.wa j.val i.val : ℝ) : EReal) else ((Ema.wb j.val (i.val - 128) : ℝ) : EReal)

section Rows

variable (X : ℕ → Vec Ideal S128x128 .f32) (ab : Vec Ideal S128x256 .f32) (h : Vec Ideal S128x1 .f32) (x : Fin 128 → ℕ → EReal)

/-- The share carried into the first chunk. -/
theorem carry_zero (r i : Fin 128) :
    carry X ab h 0 (ix2 r i) = Ema.hterm (x r) (h (ix2 r 0)) 0 i.val := by
  show k0_pay5 h (ix2 r i) = h (ix2 r 0) * ((Ema.al ^ (i.val + 1) : ℝ) : EReal)
  pointwise [k0_pay5]
  rw [Consts.named_log, Consts.word _ _ (by have := i.isLt; omega), ← EReal.coe_one, ← EReal.coe_add,
    show ((i.val : ℝ) + 1) = ((i.val + 1 : ℕ) : ℝ) by push_cast; rfl, Consts.exp_log]

/-- The share carried into chunk `k`, as the recurrence has it. -/
theorem carry_at (hab : IsOperator ab) (hX : ∀ k < 128, ∀ r i : Fin 128, X k (ix2 r i) = x r (128 * k + i.val)) (r i : Fin 128) :
    ∀ k ≤ 128, carry X ab h k (ix2 r i) = Ema.hterm (x r) (h (ix2 r 0)) k i.val
  | 0, _ => carry_zero X ab h x r i
  | k + 1, hk => by
    have ih := carry_at hab hX r i k (by omega)
    show addf (extractStridedSlice S128x128 ![0, 128] (k0_pay7 ab (X k)) slices_S128x256_o0_128_S128x128)
      (mulf (broadcast S128x128 (Named.named κ "decay" 0x3E8D70DC#32 : Ideal .f32)) (carry X ab h k)) (ix2 r i) = _
    pointwise [k0_pay7, k0_pay4, k0_pay6]
    rw [ih, Consts.named_decay, Ema.hterm, Finset.sum_range]
    congr 1
    refine Finset.sum_congr rfl fun j _ => ?_
    rw [hX k (by omega), hab, if_neg (by simp)]
    congr 3
    simp

/-- The means of chunk `k`'s samples, as the recurrence has them. -/
theorem mean_at (hab : IsOperator ab) (hX : ∀ k < 128, ∀ r i : Fin 128, X k (ix2 r i) = x r (128 * k + i.val)) (r i : Fin 128)
    (k : ℕ) (hk : k < 128) : mean X ab h k (ix2 r i) = Ema.ema (x r) (h (ix2 r 0)) (128 * k + i.val + 1) := by
  have hc := carry_at X ab h x hab hX r i k (by omega)
  pointwise [mean, k0_pay7, k0_pay4, k0_pay6]
  rw [hc, ← Ema.chunk_eq _ _ _ _ i.isLt, Finset.sum_range]
  congr 1
  refine Finset.sum_congr rfl fun j _ => ?_
  rw [hX k hk, hab, if_pos i.isLt]

/-- Chunk `k` normalised, as the recurrence has it. -/
theorem normed_at (hab : IsOperator ab) (hX : ∀ k < 128, ∀ r i : Fin 128, X k (ix2 r i) = x r (128 * k + i.val)) (r i : Fin 128)
    (k : ℕ) (hk : k < 128) : normed X ab h k (ix2 r i)
      = (x r (128 * k + i.val) - Ema.ema (x r) (h (ix2 r 0)) (128 * k + i.val + 1)) * ((1 / 40 : ℝ) : EReal) := by
  have hm := mean_at X ab h x hab hX r i k hk
  pointwise [normed, k0_pay6]
  rw [hm, hX k hk, Consts.named_inv]

end Rows

/-- The state column the body reads back after copying it is the column it copied. -/
theorem start_eq (c : Dev nD) (arg4 : Memref sig .tc .vmem S128x1 .f32) (harg4 : arg4.IsWhole)
    (arg6 : Memref sig .tc .vmem S128x1 .f32) (x2 : Vec Ideal S128x1 .f32) : kernelRun0_A.sl.v13 c arg4 harg4 arg6 x2 = x2 := by
  unfold kernelRun0_A.sl.v13 kernelRun0_A.sl.H4_1
  frame_out
  funext y
  pointwise [k0_pay3]

/-- The chunk operator the body loads is the whole block. -/
theorem operator_eq (arg3 : Memref sig .tc .vmem S128x256 .f32) (harg3 : arg3.IsWhole) (x1 : Vec Ideal S128x256 .f32) :
    operator arg3 harg3 x1 = x1 := by
  unfold operator
  simp (disch := decide) only [View.readAt_eq_ld, Memref.IsWhole.read_unread, View.ld_unit_lit']

/-- Chunk `k` of the block, at a row and a place in the chunk. -/
theorem chunk_at (arg2 : Memref sig .tc .vmem S128x16384 .f32) (harg2 : arg2.IsWhole) (x0 : Vec Ideal S128x16384 .f32) (k : ℕ)
    (hk : k < 128) (r i : Fin 128) : chunk arg2 harg2 x0 k (ix2 r i) = row x0 r (128 * k + i.val) := by
  have hi := i.isLt
  unfold chunk tile row
  rw [dif_pos (by omega)]
  simp (disch := decide) only [View.readAt_eq_ld, Memref.IsWhole.read_unread]
  show x0 _ = x0 _
  congr 1
  funext a
  apply Fin.ext
  fin_cases a
  · show 0 + 1 * r.val = r.val
    omega
  · show 128 * (k % 128) + 1 * i.val = 128 * k + i.val
    omega

variable (m : (ℓ : Loc nD τ sig) → Buf (Elt Ideal) ℓ)

/-- The normalised block after the body at point `t`, at a row and a sample: the sample less the mean after it, times the
    reciprocal of forty. -/
theorem block_at (c : Dev nD) (t : Fin cfg0.N) (x0 : Vec Ideal S128x16384 .f32) (x1 : Vec Ideal S128x256 .f32)
    (x2 : Vec Ideal S128x1 .f32) (h0 : iblk m c 0 t = x0) (h1 : iblk m c 1 t = x1) (h2 : iblk m c 2 t = x2)
    (hab : IsOperator x1) (r : Fin 128) (q : Fin 16384) :
    (show Vec Ideal S128x16384 .f32 from (outsAt0 m c t).1) (ix2 r q)
      = (row x0 r q.val - Ema.ema (row x0 r) (x2 (ix2 r 0)) (q.val + 1)) * ((1 / 40 : ℝ) : EReal) := by
  have hcov := cover0_A_3 c (grid0.coords t) (ms0_0 t) (hs0_0 t) (ms0_1 t) (hs0_1 t) (ms0_2 t) (hs0_2 t) (ms0_3 t) (hs0_3 t)
    (ms0_4 t) (hs0_4 t) (hcond0_0 t) (iblk m c 0 t) (iblk m c 1 t) (iblk m c 2 t) (ix2 r q)
  unfold outsAt0 out0_A_3
  dsimp only
  rw [View.read_writes_junk_eq_canon]
  refine View.canon_eq_of_allAt _ _ _ hcov ?_
  rw [pieces_block, start_eq, operator_eq, h0, h1, h2]
  intro p hp y hy
  obtain ⟨k, hk, rfl⟩ := List.mem_map.mp hp
  have hk := List.mem_range.mp hk
  have e0 : (y 0).val = r.val := by
    have := congrArg (fun f : S128x16384.Idx => (f 0).val) hy
    simp only [tile, Rect.emb_apply] at this
    change 0 + 1 * (y 0).val = r.val at this
    omega
  have e1 : 128 * ((127 - k) % 128) + (y 1).val = q.val := by
    have := congrArg (fun f : S128x16384.Idx => (f 1).val) hy
    simp only [tile, Rect.emb_apply] at this
    change 128 * ((127 - k) % 128) + 1 * (y 1).val = q.val at this
    omega
  have hn : (127 - k) % 128 = 127 - k := Nat.mod_eq_of_lt (by omega)
  rw [hn] at e1
  have hy2 : y = ix2 r ⟨(y 1).val, (y 1).isLt⟩ := by
    funext a
    apply Fin.ext
    fin_cases a
    · exact e0
    · rfl
  show normed _ _ _ (127 - k) y = _
  rw [hy2]
  refine (normed_at (chunk (ms0_0 t) (hs0_0 t) x0) x1 x2 (row x0) hab (fun k hk r i => chunk_at _ (hs0_0 t) x0 k hk r i) r
    ⟨(y 1).val, (y 1).isLt⟩ (127 - k) (by omega)).trans ?_
  show (row x0 r (128 * (127 - k) + (y 1).val) - Ema.ema (row x0 r) (x2 (ix2 r 0)) (128 * (127 - k) + (y 1).val + 1)) * _ = _
  rw [e1]

/-- The state block after the body at point `t`: each row's mean after its last sample. -/
theorem state_at (c : Dev nD) (t : Fin cfg0.N) (x0 : Vec Ideal S128x16384 .f32) (x1 : Vec Ideal S128x256 .f32)
    (x2 : Vec Ideal S128x1 .f32) (h0 : iblk m c 0 t = x0) (h1 : iblk m c 1 t = x1) (h2 : iblk m c 2 t = x2)
    (hab : IsOperator x1) (r : Fin 128) :
    (show Vec Ideal S128x1 .f32 from (outsAt0 m c t).2) (ix2 r 0) = Ema.ema (row x0 r) (x2 (ix2 r 0)) 16384 := by
  unfold outsAt0 out0_A_4
  dsimp only
  rw [View.read_writes_junk_eq_canon, pieces_state, start_eq, operator_eq, h0, h1, h2]
  simp (disch := decide) only [View.canon_cons_unit_lit']
  show k0_pay2 _ (ix2 r 0) = _
  pointwise [k0_pay2]
  exact mean_at _ _ _ (row x0) hab (fun k hk r i => chunk_at _ _ x0 k hk r i) r ⟨127, by decide⟩ 127 (by decide)

end Cert.KernelIdeal.Chunks

end
-- ==== Proof.Entry.lean ====
/- What the kernel's region finds on entry: the rows of the samples, the first states, the chunk operator. -/
module

public import proofs.«01_k».proof.Proof.Block
public import Idealize.ShloMosaic.Lib.StableHlo.ReadAt

@[expose] public section

set_option maxRecDepth 16384

noncomputable section

namespace Cert.KernelIdeal.Entry

open Idealize.ShloMosaic Idealize.ShloMosaic.TcCoe Idealize.ShloMosaic.Tactic
open Cert.KernelIdeal.Gen Cert.KernelIdeal.Chunks

variable (m : (ℓ : Loc nD τ sig) → Buf (Elt Ideal) ℓ)

/-- Row `R` of the samples on entry is series `R % 32` of batch element `R / 32`. -/
theorem x_entry (c : Dev nD) (R : Fin 2048) (q : Fin 16384) :
    (show FVec Ideal S2048x16384 .f32 from V m c main_v1) (ix2 R q)
      = (show FVec Ideal S64x1x16384x32 .f32 from m ((c : Thread nD τ).loc main_arg0))
          (ix4 ⟨R.val / 32, by omega⟩ 0 q ⟨R.val % 32, by omega⟩) := by
  unfold V V0
  after_reads_at

/-- Row `R` of the first states on entry is the state of series `R % 32`. -/
theorem s_entry (c : Dev nD) (R : Fin 2048) (q : Fin 1) :
    (show FVec Ideal S2048x1 .f32 from V m c main_v6) (ix2 R q)
      = (show FVec Ideal S1x1x32 .f32 from m ((c : Thread nD τ).loc main_arg1)) (ix3 0 0 ⟨R.val % 32, by omega⟩) := by
  unfold V V0
  after_reads_at

/-- The table the host builds on entry is the operator of a chunk. -/
theorem ab_entry (c : Dev nD) : IsOperator (show FVec Ideal S128x256 .f32 from V m c main_v44) := by
  intro j i
  unfold V V0
  after_reads_at
  simp only [Consts.ninetynine, Consts.hundred, Consts.decay_quot, ← EReal.coe_one, Consts.one_sub_decay]
  split_ifs with h
  · show (if BitVec.ofBool (BitVec.sle (BitVec.ofNat 32 j.val) (BitVec.ofNat 32 i.val)) = 1#1 then _ else _) = _
    rw [Consts.word_le _ _ (by omega) (by omega)]
    by_cases hji : j.val ≤ i.val
    · rw [if_pos (by simp [hji])]
      show _ * Ideal.pow _ (FloatOps.sitofp FTy.f32 (BitVec.ofNat 32 i.val - BitVec.ofNat 32 j.val) : Ideal .f32) = _
      rw [Consts.word_sub _ _ hji (by omega), Consts.word _ _ (by omega), Consts.pow_nat, ← EReal.coe_mul, Ema.wa, if_pos hji]
    · rw [if_neg (by simp [hji]), Ema.wa, if_neg hji]
      exact Consts.zero.trans EReal.coe_zero.symm
  · show _ * Ideal.pow _ (FloatOps.sitofp FTy.f32 (BitVec.ofNat 32 127 - BitVec.ofNat 32 j.val) : Ideal .f32)
      * Ideal.pow _ (FloatOps.sitofp FTy.f32 (BitVec.ofNat 32 (i.val - 128) + BitVec.ofNat 32 1) : Ideal .f32) = _
    rw [Consts.word_sub _ _ (by omega) (by omega), ← BitVec.ofNat_add, Consts.word _ _ (by omega), Consts.word _ _ (by omega),
      Consts.pow_nat, Consts.pow_nat, ← EReal.coe_mul, ← EReal.coe_mul, Ema.wb]

/-- The series `f` of batch element `b` of a feature tensor, time by time; past its end it is zero. -/
def series (A : FVec Ideal S64x1x16384x32 .f32) (b : Fin 64) (f : Fin 32) (q : ℕ) : EReal :=
  if hq : q < 16384 then A (ix4 b 0 ⟨q, hq⟩ f) else 0

/-- The block indices of the windows at each point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ t.val < 16 :=
  (by decide +kernel : ∀ t : Fin grid0.N, _)

/-- At point `t` the operator's block is the operator. -/
theorem ab_block (c : Dev nD) (t : Fin cfg0.N) : iblk m c 1 t = V m c main_v44 := by
  blk_ext! [iblk, idx t]

/-- At point `t` row `r` of the samples' block is a series of one batch element. -/
theorem x_block (c : Dev nD) (t : Fin cfg0.N) (ht : t.val < 16) (r : Fin 128) :
    row (show Vec Ideal S128x16384 .f32 from iblk m c 0 t) r
      = series (show FVec Ideal S64x1x16384x32 .f32 from m ((c : Thread nD τ).loc main_arg0))
          ⟨(t.val * 128 + r.val) / 32, by omega⟩ ⟨(t.val * 128 + r.val) % 32, by omega⟩ := by
  funext q
  unfold row series
  split_ifs with hq
  · refine Eq.trans ?_ (x_entry m c ⟨t.val * 128 + r.val, by omega⟩ ⟨q, hq⟩)
    blk_ext [iblk, idx t]
  · rfl

/-- At point `t` row `r` of the first states' block is one series' state. -/
theorem s_block (c : Dev nD) (t : Fin cfg0.N) (ht : t.val < 16) (r : Fin 128) :
    (show Vec Ideal S128x1 .f32 from iblk m c 2 t) (ix2 r 0)
      = (show FVec Ideal S1x1x32 .f32 from m ((c : Thread nD τ).loc main_arg1))
          (ix3 0 0 ⟨(t.val * 128 + r.val) % 32, by omega⟩) := by
  refine Eq.trans ?_ (s_entry m c ⟨t.val * 128 + r.val, by omega⟩ 0)
  blk_ext [iblk, idx t]

end Cert.KernelIdeal.Entry

end
-- ==== Proof.Arrays.lean ====
/- What the kernel's run leaves in its two results. -/
module

public import proofs.«01_k».proof.Proof.Entry
public import Idealize.ShloMosaic.Lib.Pipeline.FrameTail

@[expose] public section

set_option maxRecDepth 16384

noncomputable section

namespace Cert.KernelIdeal.Arrays

open Idealize.ShloMosaic Idealize.ShloMosaic.TcCoe Idealize.ShloMosaic.Tactic
open Cert.KernelIdeal.Gen Cert.KernelIdeal.Chunks Cert.KernelIdeal.Entry

/-- A feature less its running mean, over forty. -/
def feature (A : FVec Ideal S64x1x16384x32 .f32) (S : FVec Ideal S1x1x32 .f32) (b : Fin 64) (f : Fin 32) (q : ℕ) : EReal :=
  (series A b f q - Ema.ema (series A b f) (S (ix3 0 0 f)) (q + 1)) * ((1 / 40 : ℝ) : EReal)

/-- The running mean of a series after its last sample. -/
def last (A : FVec Ideal S64x1x16384x32 .f32) (S : FVec Ideal S1x1x32 .f32) (b : Fin 64) (f : Fin 32) : EReal :=
  Ema.ema (series A b f) (S (ix3 0 0 f)) 16384

/-- The features as the kernel lays them out: a row for each batch element and series. -/
def featureRows (A : FVec Ideal S64x1x16384x32 .f32) (S : FVec Ideal S1x1x32 .f32) : FVec Ideal S2048x16384 .f32 := fun j =>
  feature A S ⟨(j 0).val / 32, by have : (j 0).val < 2048 := (j 0).isLt; omega⟩ ⟨(j 0).val % 32, by omega⟩ (j 1).val

/-- The last means as the kernel lays them out: a row for each batch element and series. -/
def lastRows (A : FVec Ideal S64x1x16384x32 .f32) (S : FVec Ideal S1x1x32 .f32) : FVec Ideal S2048x1 .f32 := fun j =>
  last A S ⟨(j 0).val / 32, by have : (j 0).val < 2048 := (j 0).isLt; omega⟩ ⟨(j 0).val % 32, by omega⟩

variable (m : (ℓ : Loc nD τ sig) → Buf (Elt Ideal) ℓ)

/-- The feature argument of a device. -/
abbrev argA (c : Dev nD) : FVec Ideal S64x1x16384x32 .f32 := m ((c : Thread nD τ).loc main_arg0)
/-- The state argument of a device. -/
abbrev argS (c : Dev nD) : FVec Ideal S1x1x32 .f32 := m ((c : Thread nD τ).loc main_arg1)

/-- What the body leaves in the feature block at point `t`, placed among the rows. -/
theorem feature_rows_at (c : Dev nD) (t : Fin cfg0.N) (ht : t.val < 16) (y : S128x16384.Idx) (j : S2048x16384.Idx)
    (h0 : (j 0).val = t.val * 128 + (y 0).val) (h1 : (j 1).val = (y 1).val) :
    (show Vec Ideal S128x16384 .f32 from (outsAt0 m c t).1) y = featureRows (argA m c) (argS m c) j := by
  idx_vars y
  refine (block_at m c t _ _ _ rfl rfl rfl ?_ y0 y1).trans ?_
  · rw [ab_block m c t]
    exact ab_entry m c
  · refine (congrArg₂ (fun (X : ℕ → EReal) (s : EReal) => (X y1.val - Ema.ema X s (y1.val + 1)) * ((1 / 40 : ℝ) : EReal))
      (x_block m c t ht y0) (s_block m c t ht y0)).trans ?_
    change (j 0).val = t.val * 128 + y0.val at h0
    change (j 1).val = y1.val at h1
    unfold featureRows feature
    simp only [h0, h1]

/-- What the body leaves in the state block at point `t`, placed among the rows. -/
theorem last_rows_at (c : Dev nD) (t : Fin cfg0.N) (ht : t.val < 16) (y : S128x1.Idx) (j : S2048x1.Idx)
    (h0 : (j 0).val = t.val * 128 + (y 0).val) :
    (show Vec Ideal S128x1 .f32 from (outsAt0 m c t).2) y = lastRows (argA m c) (argS m c) j := by
  idx_vars y
  obtain rfl : y1 = 0 := Subsingleton.elim _ _
  refine (state_at m c t _ _ _ rfl rfl rfl ?_ y0).trans ?_
  · rw [ab_block m c t]
    exact ab_entry m c
  · refine (congrArg₂ (fun (X : ℕ → EReal) (s : EReal) => Ema.ema X s 16384) (x_block m c t ht y0)
      (s_block m c t ht y0)).trans ?_
    change (j 0).val = t.val * 128 + y0.val at h0
    unfold lastRows last
    simp only [h0]

/-- The features after the region. -/
theorem features_after (c : Dev nD) : (dats m 0 c).arrAt 3 (cfgs 0).N = featureRows (argA m c) (argS m c) := by
  refine (dats m 0 c).arrAt_eq_of_covers 3 _ (by decide +kernel) fun t hf y => ?_
  blk_simp
  rw [after0_3]
  obtain ⟨h0, h1, h2, h3, h4, ht⟩ := idx t
  exact feature_rows_at m c t ht y _ (by blk_simp [h3]) (by blk_simp [h3])

/-- The last means after the region. -/
theorem last_after (c : Dev nD) : (dats m 0 c).arrAt 4 (cfgs 0).N = lastRows (argA m c) (argS m c) := by
  refine (dats m 0 c).arrAt_eq_of_covers 4 _ (by decide +kernel) fun t hf y => ?_
  blk_simp
  rw [after0_4]
  obtain ⟨h0, h1, h2, h3, h4, ht⟩ := idx t
  exact last_rows_at m c t ht y _ (by blk_simp [h4])

/-- The row of a batch element and series splits back into them. -/
theorem row_split (b : Fin 64) (f : Fin 32) : (b.val * 32 + f.val) / 32 = b.val ∧ (b.val * 32 + f.val) % 32 = f.val := by
  omega

/-- The feature result, read at an index. -/
theorem feat_out (c : Dev nD) (b : Fin 64) (q : Fin 16384) (f : Fin 32) :
    (show FVec Ideal S64x1x16384x32 .f32 from Pipeline.afterTail₀ cfgs (dats m) 0 (V0 m) [hostOps1] c main_v47) (ix4 b 0 q f)
      = feature (argA m c) (argS m c) b f q.val := by
  unfold Pipeline.afterTail₀
  after_reads_at
  refine (congrFun (Pipeline.withArrays_arr spec0 launch0.win.arr_inj c (V0 m c)
    (fun w => (dats m 0 c).arrAt w (cfgs 0).N) 3) _).trans ?_
  refine (congrFun (features_after m c) _).trans ?_
  show feature _ _ ⟨(b.val * 32 + f.val) / 32, _⟩ ⟨(b.val * 32 + f.val) % 32, _⟩ q.val = _
  simp only [(row_split b f).1, (row_split b f).2]

/-- The state result, read at an index. -/
theorem state_out (c : Dev nD) (b : Fin 64) (f : Fin 32) :
    (show FVec Ideal S64x1x32 .f32 from Pipeline.afterTail₀ cfgs (dats m) 0 (V0 m) [hostOps1] c main_v48) (ix3 b 0 f)
      = last (argA m c) (argS m c) b f := by
  unfold Pipeline.afterTail₀
  after_reads_at
  refine (congrFun (Pipeline.withArrays_arr spec0 launch0.win.arr_inj c (V0 m c)
    (fun w => (dats m 0 c).arrAt w (cfgs 0).N) 4) _).trans ?_
  refine (congrFun (last_after m c) _).trans ?_
  show last _ _ ⟨(b.val * 32 + f.val) / 32, _⟩ ⟨(b.val * 32 + f.val) % 32, _⟩ = _
  simp only [(row_split b f).1, (row_split b f).2]

end Cert.KernelIdeal.Arrays

end
-- ==== Proof.RefLoop.lean ====
/- What the reference's loop leaves after any number of trips. -/
module

public import proofs.«01_k».proof.Proof.Arrays
public import proofs.«01_k».proof.Proof.Gen.ReferenceIdeal.Run
public import Idealize.ShloMosaic.Lib.WordCmp

@[expose] public section

set_option maxRecDepth 16384

noncomputable section

namespace Cert.ReferenceIdeal.Loop

open Idealize.ShloMosaic Idealize.ShloMosaic.TcCoe Idealize.ShloMosaic.Tactic Idealize.ShloMosaic.StableHlo
open Cert.ReferenceIdeal.Gen Cert.ReferenceIdeal.Value
open Cert.KernelIdeal.Entry (series)
open Cert.KernelIdeal.Arrays (feature last)

/-- The samples in the loop's layout, time first. -/
abbrev xs (V : Valuation τ sig (Elt Ideal)) : FVec Ideal S16384x64x1x32 .f32 := V (Proc.devRef .tc main_v4_0)
/-- The decay the loop carries. -/
abbrev dec (V : Valuation τ sig (Elt Ideal)) : FVec Ideal S_ .f32 := V (Proc.devRef .tc main_v4_1)
/-- The counter the loop carries. -/
abbrev ctr (V : Valuation τ sig (Elt Ideal)) : IVec S_ 32 := V (Proc.devRef .tc main_v4_2)
/-- The state the loop carries. -/
abbrev st (V : Valuation τ sig (Elt Ideal)) : FVec Ideal S64x1x32 .f32 := V (Proc.devRef .tc main_v4_3)
/-- The outputs the loop has written. -/
abbrev ys (V : Valuation τ sig (Elt Ideal)) : FVec Ideal S16384x64x1x32 .f32 := V (Proc.devRef .tc main_v4_4)

/-- The start of trip `k`'s slice, from a counter that is `k`. -/
theorem starts (k : ℕ) (hk : k < 16384) (a : Fin 4) :
    ((![(fun _ => BitVec.ofNat 32 k : IVec S_ 32), constantI S_ 32 0#32, constantI S_ 32 0#32, constantI S_ 32 0#32] : Fin 4 → IVec S_ 32)
        a (Shape.Idx.first h_S_)).toInt = ((![k, 0, 0, 0] : Fin 4 → ℕ) a : ℤ) := by
  fin_cases a
  · show (BitVec.ofNat 32 k).toInt = (k : ℤ)
    rw [BitVec.toInt_eq_toNat_of_lt (by rw [BitVec.toNat_ofNat]; omega), BitVec.toNat_ofNat, Nat.mod_eq_of_lt (by omega)]
  all_goals rfl

/-- Trip `k`'s slice lies inside the samples. -/
theorem slice_in (k : ℕ) (hk : k < 16384) : S16384x64x1x32.Slices ![k, 0, 0, 0] S1x64x1x32 := by
  refine ⟨rfl, fun a => ?_⟩
  fin_cases a
  · show k + 1 ≤ 16384
    omega
  · show 0 + 64 ≤ 64
    omega
  · show 0 + 1 ≤ 1
    omega
  · show 0 + 32 ≤ 32
    omega

/-- The sample trip `k` reads. -/
theorem sample_at (V : Valuation τ sig (Elt Ideal)) (k : ℕ) (hk : k < 16384) (hc : ctr V = fun _ => BitVec.ofNat 32 k)
    (b : Fin 64) (f : Fin 32) :
    (show FVec Ideal S64x1x32 .f32 from res_main_while0b_v6 V) (ix3 b 0 f) = xs V (ix4 ⟨k, hk⟩ b 0 f) := by
  unfold res_main_while0b_v6
  rw [show V (Proc.devRef .tc main_v4_2) = fun _ => BitVec.ofNat 32 k from hc,
    WordCmp.dynamicSlice_eq_extract _ _ _ _ ![k, 0, 0, 0] (slice_in k hk) (starts k hk)]
  pointwise

/-- The mean after a trip. -/
theorem mean_at (V : Valuation τ sig (Elt Ideal)) (hd : dec V ix0 = ((Ema.al : ℝ) : EReal)) (b : Fin 64) (f : Fin 32) :
    (show FVec Ideal S64x1x32 .f32 from res_main_while0b_v12 V) (ix3 b 0 f)
      = (show FVec Ideal S64x1x32 .f32 from res_main_while0b_v6 V) (ix3 b 0 f) * ((1 - Ema.al : ℝ) : EReal)
        + st V (ix3 b 0 f) * ((Ema.al : ℝ) : EReal) := by
  unfold res_main_while0b_v12
  pointwise
  rw [show V (Proc.devRef .tc main_v4_1) ix0 = ((Ema.al : ℝ) : EReal) from hd, ← EReal.coe_one, Cert.Consts.one_sub_decay]

/-- The outputs after trip `k`. -/
theorem out_at (V : Valuation τ sig (Elt Ideal)) (k : ℕ) (hk : k < 16384) (hc : ctr V = fun _ => BitVec.ofNat 32 k)
    (t : Fin 16384) (b : Fin 64) (f : Fin 32) :
    (show FVec Ideal S16384x64x1x32 .f32 from step_main_v4_4 V) (ix4 t b 0 f)
      = if t.val = k then ((show FVec Ideal S64x1x32 .f32 from res_main_while0b_v6 V) (ix3 b 0 f)
          - (show FVec Ideal S64x1x32 .f32 from res_main_while0b_v12 V) (ix3 b 0 f)) * ((1 / 40 : ℝ) : EReal)
        else ys V (ix4 t b 0 f) := by
  unfold step_main_v4_4
  rw [show V (Proc.devRef .tc main_v4_2) = fun _ => BitVec.ofNat 32 k from hc,
    WordCmp.dynamicUpdateSlice_eq_update _ _ _ _ ![k, 0, 0, 0] (slice_in k hk) (starts k hk)]
  simp only [id]
  pointwise
  rw [Cert.Consts.forty, Ideal.div_coe (by norm_num : (40 : ℝ) ≠ 0)]
  refine ite_congr (propext ⟨fun h => ?_, fun h a => ?_⟩) (fun _ => ?_) fun _ => rfl
  · have h0 : k ≤ t.val ∧ t.val < k + 1 := h 0
    omega
  · match a with
    | ⟨0, _⟩ => exact (⟨by omega, by omega⟩ : k ≤ t.val ∧ t.val < k + 1)
    | ⟨1, _⟩ => exact (⟨by omega, by omega⟩ : 0 ≤ b.val ∧ b.val < 0 + 64)
    | ⟨2, _⟩ => exact (⟨by omega, by omega⟩ : 0 ≤ 0 ∧ 0 < 0 + 1)
    | ⟨3, _⟩ => exact (⟨by omega, by omega⟩ : 0 ≤ f.val ∧ f.val < 0 + 32)
  · norm_num

variable (m : (ℓ : Loc nD τ sig) → Buf (Elt Ideal) ℓ)

/-- The samples on entry are the feature argument, time first. -/
theorem xs_entry (c : Dev nD) (t : Fin 16384) (b : Fin 64) (f : Fin 32) :
    xs (entryContents preI m c) (ix4 t b 0 f)
      = (show FVec Ideal S64x1x16384x32 .f32 from m ((c : Thread nD τ).loc main_arg0)) (ix4 b 0 t f) := by
  unfold xs
  simp only [entryContents, afterL_cons, afterL_nil]
  after_reads_at
  simp only [id]
  pointwise [launchContents]

/-- The decay on entry. -/
theorem dec_entry (c : Dev nD) : dec (entryContents preI m c) ix0 = ((Ema.al : ℝ) : EReal) := by
  unfold dec
  simp only [entryContents, afterL_cons, afterL_nil]
  after_reads_at
  show Ideal.div (Ideal.ofBits .f32 0x42C60000#32) (Ideal.ofBits .f32 0x42C80000#32) = _
  rw [Cert.Consts.ninetynine, Cert.Consts.hundred, Cert.Consts.decay_quot]

/-- The state on entry is the state argument, one for each batch element. -/
theorem st_entry (c : Dev nD) (b : Fin 64) (f : Fin 32) :
    st (entryContents preI m c) (ix3 b 0 f)
      = (show FVec Ideal S1x1x32 .f32 from m ((c : Thread nD τ).loc main_arg1)) (ix3 0 0 f) := by
  unfold st
  simp only [entryContents, afterL_cons, afterL_nil]
  after_reads_at
  simp only [id]
  pointwise [launchContents]

/-- The feature argument of a device. -/
abbrev argA (c : Dev nD) : FVec Ideal S64x1x16384x32 .f32 := m ((c : Thread nD τ).loc main_arg0)
/-- The state argument of a device. -/
abbrev argS (c : Dev nD) : FVec Ideal S1x1x32 .f32 := m ((c : Thread nD τ).loc main_arg1)

/-- What the loop carries before trip `k`: the samples and the decay as on entry, the counter `k`, the running means
    after `k` samples, and the first `k` features written. -/
structure Before (c : Dev nD) (k : ℕ) (V : Valuation τ sig (Elt Ideal)) : Prop where
  samples : ∀ (t : Fin 16384) (b : Fin 64) (f : Fin 32), xs V (ix4 t b 0 f) = argA m c (ix4 b 0 t f)
  decay : dec V ix0 = ((Ema.al : ℝ) : EReal)
  counter : ctr V = fun _ => BitVec.ofNat 32 k
  means : ∀ (b : Fin 64) (f : Fin 32), st V (ix3 b 0 f) = Ema.ema (series (argA m c) b f) (argS m c (ix3 0 0 f)) k
  outputs : ∀ (t : Fin 16384) (b : Fin 64) (f : Fin 32), t.val < k →
    ys V (ix4 t b 0 f) = feature (argA m c) (argS m c) b f t.val

/-- The loop's contents on entry. -/
theorem before_zero (c : Dev nD) : Before m c 0 (entryContents preI m c) where
  samples := xs_entry m c
  decay := dec_entry m c
  counter := ctr_entry m c
  means := st_entry m c
  outputs := fun _ _ _ h => absurd h (Nat.not_lt_zero _)

/-- One trip. -/
theorem before_succ (c : Dev nD) (k : ℕ) (hk : k < 16384) (V : Valuation τ sig (Elt Ideal)) (h : Before m c k V) :
    Before m c (k + 1) (STEP V) := by
  have hs : ∀ (b : Fin 64) (f : Fin 32), (show FVec Ideal S64x1x32 .f32 from res_main_while0b_v6 V) (ix3 b 0 f)
      = series (argA m c) b f k := fun b f => by
    refine ((sample_at V k hk h.counter b f).trans (h.samples ⟨k, hk⟩ b f)).trans ?_
    unfold series
    exact Eq.symm (dif_pos (t := fun hq => argA m c (ix4 b 0 ⟨k, hq⟩ f)) (e := fun _ => (0 : EReal)) hk)
  have hm : ∀ (b : Fin 64) (f : Fin 32), (show FVec Ideal S64x1x32 .f32 from res_main_while0b_v12 V) (ix3 b 0 f)
      = Ema.ema (series (argA m c) b f) (argS m c (ix3 0 0 f)) (k + 1) := fun b f => by
    refine (mean_at V h.decay b f).trans ?_
    rw [hs b f, h.means b f]
    rfl
  refine ⟨fun t b f => ?_, ?_, ?_, fun b f => ?_, fun t b f ht => ?_⟩
  · unfold xs
    rw [STEP_main_v4_0]
    exact h.samples t b f
  · unfold dec
    rw [STEP_main_v4_1]
    exact h.decay
  · unfold ctr
    rw [STEP_main_v4_2]
    unfold step_main_v4_2
    rw [show V (Proc.devRef .tc main_v4_2) = fun _ => BitVec.ofNat 32 k from h.counter]
    exact funext fun _ => (BitVec.ofNat_add k 1).symm
  · unfold st
    rw [STEP_main_v4_3]
    exact hm b f
  · unfold ys
    rw [STEP_main_v4_4]
    refine (out_at V k hk h.counter t b f).trans ?_
    split_ifs with htk
    · rw [hs b f, hm b f, htk]
      rfl
    · exact h.outputs t b f (by omega)

/-- Any number of trips up to the last. -/
theorem before (c : Dev nD) : ∀ k, k ≤ 16384 → Before m c k (STEP^[k] (entryContents preI m c))
  | 0, _ => before_zero m c
  | k + 1, hk => by
    rw [Function.iterate_succ_apply']
    exact before_succ m c k (by omega) _ (before c k (by omega))

/-- The feature result, read at an index. -/
theorem feat_out (c : Dev nD) (b : Fin 64) (q : Fin 16384) (f : Fin 32) :
    (show FVec Ideal S64x1x16384x32 .f32 from out_main_v5 (STEP^[16384] (entryContents preI m c))) (ix4 b 0 q f)
      = feature (argA m c) (argS m c) b f q.val := by
  refine Eq.trans ?_ ((before m c 16384 le_rfl).outputs q b f q.isLt)
  unfold out_main_v5
  pointwise

/-- The state result, read at an index. -/
theorem state_out (c : Dev nD) (b : Fin 64) (f : Fin 32) :
    (show FVec Ideal S64x1x32 .f32 from (STEP^[16384] (entryContents preI m c)) (Proc.devRef .tc main_v4_3)) (ix3 b 0 f)
      = last (argA m c) (argS m c) b f :=
  (before m c 16384 le_rfl).means b f

end Cert.ReferenceIdeal.Loop

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefLoop
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem
open Cert.KernelIdeal.Arrays (feature last)

/-- The kernel ends with its arguments unchanged and its counters at zero. -/
theorem frame_kernel : Cert.quiescent_Kernel := fun m g _ => Cert.Kernel.Gen.frame m g

/-- So does its idealization. -/
theorem frame_ideal : Cert.quiescent_KernelIdeal := fun m g _ => Cert.KernelIdeal.Gen.frame m g

/-- So does the reference, which has no semaphore. -/
theorem frame_reference : Cert.quiescent_ReferenceIdeal := by
  intro m g _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- Each named constant is the kernel's literal up to its rounding. -/
theorem preserves : Cert.preserves_Kernel_KernelIdeal := by
  unfold Cert.preserves_Kernel_KernelIdeal
  repeat' first
    | exact IdealRules.named_const.statement _ _ _ _ _ rfl
    | refine And.intro ?_ ?_

/-- The features of a device's arguments, as the result lays them out. -/
def features (A : FVec Ideal Cert.KernelIdeal.S64x1x16384x32 .f32) (S : FVec Ideal Cert.KernelIdeal.S1x1x32 .f32) :
    FVec Ideal Cert.KernelIdeal.S64x1x16384x32 .f32 := fun i => feature A S (i 0) (i 3) (i 2).val

/-- The last means of a device's arguments, as the result lays them out. -/
def means (A : FVec Ideal Cert.KernelIdeal.S64x1x16384x32 .f32) (S : FVec Ideal Cert.KernelIdeal.S1x1x32 .f32) :
    FVec Ideal Cert.KernelIdeal.S64x1x32 .f32 := fun i => last A S (i 0) (i 2)

/-- A tensor that reads as the features at every index is the features. -/
theorem features_ext (A : FVec Ideal Cert.KernelIdeal.S64x1x16384x32 .f32) (S : FVec Ideal Cert.KernelIdeal.S1x1x32 .f32)
    (X : FVec Ideal Cert.KernelIdeal.S64x1x16384x32 .f32)
    (h : ∀ (b : Fin 64) (q : Fin 16384) (f : Fin 32), X (ix4 b 0 q f) = feature A S b f q.val) : X = features A S := by
  funext i
  idx_vars i
  obtain rfl : i1 = 0 := Subsingleton.elim _ _
  exact h i0 i2 i3

/-- A tensor that reads as the last means at every index is the last means. -/
theorem means_ext (A : FVec Ideal Cert.KernelIdeal.S64x1x16384x32 .f32) (S : FVec Ideal Cert.KernelIdeal.S1x1x32 .f32)
    (X : FVec Ideal Cert.KernelIdeal.S64x1x32 .f32)
    (h : ∀ (b : Fin 64) (f : Fin 32), X (ix3 b 0 f) = last A S b f) : X = means A S := by
  funext i
  idx_vars i
  obtain rfl : i1 = 0 := Subsingleton.elim _ _
  exact h i0 i2

/-- Over the reals the kernel and the reference give the same features and the same last means. -/
theorem algebraic : Cert.algebraic_KernelIdeal_ReferenceIdeal := by
  intro m g m' g' _ hargs
  refine ⟨fun c => features (Cert.KernelIdeal.Arrays.argA m c) (Cert.KernelIdeal.Arrays.argS m c),
    fun c => means (Cert.KernelIdeal.Arrays.argA m c) (Cert.KernelIdeal.Arrays.argS m c), ?_, ?_⟩
  · refine (θ_run Cert.KernelIdeal.defs _ _).mono (fun r h c => ⟨?_, ?_, ?_, ?_⟩) (Cert.KernelIdeal.Gen.run_main m g)
    · refine ((h c).2 Cert.KernelIdeal.main_v47 (Pipeline.mem_restRefs_of _ (by decide) (by decide))).trans ?_
      exact features_ext _ _ _ (Cert.KernelIdeal.Arrays.feat_out m c)
    · refine ((h c).2 Cert.KernelIdeal.main_v48 (Pipeline.mem_restRefs_of _ (by decide) (by decide))).trans ?_
      exact means_ext _ _ _ (Cert.KernelIdeal.Arrays.state_out m c)
    · exact ((h c).2 Cert.KernelIdeal.main_arg0 (Pipeline.mem_restRefs_of _ (by decide) (by decide))).trans
        (Cert.KernelIdeal.Gen.W_main_arg0 m _ c)
    · exact ((h c).2 Cert.KernelIdeal.main_arg1 (Pipeline.mem_restRefs_of _ (by decide) (by decide))).trans
        (Cert.KernelIdeal.Gen.W_main_arg1 m _ c)
  · refine (θ_run Cert.ReferenceIdeal.defs _ _).mono (fun r h c => ⟨?_, ?_, (h c).2.2⟩)
      (Cert.ReferenceIdeal.Value.run (F := Ideal) m' g')
    · refine (h c).1.trans ((features_ext _ _ _ (Cert.ReferenceIdeal.Loop.feat_out m' c)).trans ?_)
      exact congrArg₂ features (hargs c).1 (hargs c).2
    · refine (h c).2.1.trans ((means_ext _ _ _ (Cert.ReferenceIdeal.Loop.state_out m' c)).trans ?_)
      exact congrArg₂ means (hargs c).1 (hargs c).2

/-- Every claim about the kernel, its idealization and the reference. -/
theorem claim : Cert.Claim := ⟨Cert.Kernel.Gen.facts, Cert.KernelIdeal.Gen.facts, Cert.ReferenceIdeal.Gen.facts,
  frame_kernel, frame_ideal, frame_reference, preserves, algebraic⟩

end Cert.Proof

end
